-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_finite [hPre_one_finite : Cert.Pre_one_finite.Facts] (m : (ℓ : Loc Cert.KernelIdeal.nD Cert.KernelIdeal.τ Cert.KernelIdeal.sig) → Buf (Elt Ideal) ℓ) : Prop :=
  ∀ c : Dev Cert.KernelIdeal.nD,
    (Cert.Pre_one_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_finite [hPre_one_finite : Cert.Pre_one_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_one_finite [hKernelIdeal : Cert.KernelIdeal.Facts] [hPre_one_finite : Cert.Pre_one_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_one_finite [hReferenceIdeal : Cert.ReferenceIdeal.Facts] [hPre_one_finite : Cert.Pre_one_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_one_finite [hKernelIdeal : Cert.KernelIdeal.Facts] [hReferenceIdeal : Cert.ReferenceIdeal.Facts] [hPre_one_finite : Cert.Pre_one_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v23) = v2 c
          ∧ r.2.mem ((c.tc : Thread Cert.ReferenceIdeal.nD Cert.ReferenceIdeal.τ).loc Cert.ReferenceIdeal.main_v28) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def algebraic_KernelIdeal_ReferenceIdeal_on_windows [hKernelIdeal : Cert.KernelIdeal.Facts] [hReferenceIdeal : Cert.ReferenceIdeal.Facts] [hOn_windows : Cert.On_windows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨4, ![8, 256, 256, 16]⟩ : Shape).Idx, (Cert.On_windows.fn (F := Ideal) (m ((c.tc : Thread Cert.KernelIdeal.nD Cert.KernelIdeal.τ).loc Cert.KernelIdeal.main_arg0))).1 i = 1#1 → r.2.mem ((c.tc : Thread Cert.KernelIdeal.nD Cert.KernelIdeal.τ).loc Cert.KernelIdeal.main_v4) i = v0 c i)
          ∧ (∀ i : (⟨4, ![8, 256, 256, 16]⟩ : Shape).Idx, (Cert.On_windows.fn (F := Ideal) (m ((c.tc : Thread Cert.KernelIdeal.nD Cert.KernelIdeal.τ).loc Cert.KernelIdeal.main_arg0))).2.1 i = 1#1 → r.2.mem ((c.tc : Thread Cert.KernelIdeal.nD Cert.KernelIdeal.τ).loc Cert.KernelIdeal.main_v6) i = v1 c i)
          ∧ (∀ i : (⟨4, ![8, 256, 256, 16]⟩ : Shape).Idx, (Cert.On_windows.fn (F := Ideal) (m ((c.tc : Thread Cert.KernelIdeal.nD Cert.KernelIdeal.τ).loc Cert.KernelIdeal.main_arg0))).2.2.1 i = 1#1 → r.2.mem ((c.tc : Thread Cert.KernelIdeal.nD Cert.KernelIdeal.τ).loc Cert.KernelIdeal.main_v8) i = v2 c i)
          ∧ (∀ i : (⟨4, ![8, 256, 256, 16]⟩ : Shape).Idx, (Cert.On_windows.fn (F := Ideal) (m ((c.tc : Thread Cert.KernelIdeal.nD Cert.KernelIdeal.τ).loc Cert.KernelIdeal.main_arg0))).2.2.2 i = 1#1 → r.2.mem ((c.tc : Thread Cert.KernelIdeal.nD Cert.KernelIdeal.τ).loc Cert.KernelIdeal.main_v10) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨4, ![8, 256, 256, 16]⟩ : Shape).Idx, (Cert.On_windows.fn (F := Ideal) (m ((c.tc : Thread Cert.KernelIdeal.nD Cert.KernelIdeal.τ).loc Cert.KernelIdeal.main_arg0))).1 i = 1#1 → r.2.mem ((c.tc : Thread Cert.ReferenceIdeal.nD Cert.ReferenceIdeal.τ).loc Cert.ReferenceIdeal.main_v13) i = v0 c i)
          ∧ (∀ i : (⟨4, ![8, 256, 256, 16]⟩ : Shape).Idx, (Cert.On_windows.fn (F := Ideal) (m ((c.tc : Thread Cert.KernelIdeal.nD Cert.KernelIdeal.τ).loc Cert.KernelIdeal.main_arg0))).2.1 i = 1#1 → r.2.mem ((c.tc : Thread Cert.ReferenceIdeal.nD Cert.ReferenceIdeal.τ).loc Cert.ReferenceIdeal.main_v18) i = v1 c i)
          ∧ (∀ i : (⟨4, ![8, 256, 256, 16]⟩ : Shape).Idx, (Cert.On_windows.fn (F := Ideal) (m ((c.tc : Thread Cert.KernelIdeal.nD Cert.KernelIdeal.τ).loc Cert.KernelIdeal.main_arg0))).2.2.1 i = 1#1 → r.2.mem ((c.tc : Thread Cert.ReferenceIdeal.nD Cert.ReferenceIdeal.τ).loc Cert.ReferenceIdeal.main_v23) i = v2 c i)
          ∧ (∀ i : (⟨4, ![8, 256, 256, 16]⟩ : Shape).Idx, (Cert.On_windows.fn (F := Ideal) (m ((c.tc : Thread Cert.KernelIdeal.nD Cert.KernelIdeal.τ).loc Cert.KernelIdeal.main_arg0))).2.2.2 i = 1#1 → r.2.mem ((c.tc : Thread Cert.ReferenceIdeal.nD Cert.ReferenceIdeal.τ).loc Cert.ReferenceIdeal.main_v28) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_one_finite : Cert.Pre_one_finite.Facts) (hOn_windows : Cert.On_windows.Facts),
    quiescent_Kernel (hKernel := hKernel)
    ∧ quiescent_KernelIdeal (hKernelIdeal := hKernelIdeal)
    ∧ quiescent_KernelIdeal_pre_one_finite (hKernelIdeal := hKernelIdeal) (hPre_one_finite := hPre_one_finite)
    ∧ quiescent_ReferenceIdeal (hReferenceIdeal := hReferenceIdeal)
    ∧ quiescent_ReferenceIdeal_pre_one_finite (hReferenceIdeal := hReferenceIdeal) (hPre_one_finite := hPre_one_finite)
    ∧ preserves_Kernel_KernelIdeal
    ∧ algebraic_KernelIdeal_ReferenceIdeal_pre_one_finite (hKernelIdeal := hKernelIdeal) (hReferenceIdeal := hReferenceIdeal) (hPre_one_finite := hPre_one_finite)
    ∧ algebraic_KernelIdeal_ReferenceIdeal_on_windows (hKernelIdeal := hKernelIdeal) (hReferenceIdeal := hReferenceIdeal) (hOn_windows := hOn_windows)
-- ==== On_windows.lean ====
abbrev S8x512x512x16 : Shape := ⟨4, ![8, 512, 512, 16]⟩
abbrev S8x256x2x256x2x16 : Shape := ⟨6, ![8, 256, 2, 256, 2, 16]⟩
abbrev S8x256x1x256x1x16 : Shape := ⟨6, ![8, 256, 1, 256, 1, 16]⟩
abbrev S8x256x256x16 : Shape := ⟨4, ![8, 256, 256, 16]⟩
abbrev S_ : Shape := ⟨0, ![]⟩

class Facts : Prop where
  shapeCasts_S8x512x512x16_S8x256x2x256x2x16 : S8x512x512x16.ShapeCasts S8x256x2x256x2x16
  slices_S8x256x2x256x2x16_S8x256x1x256x1x16_0_0_0_0_1_0 : S8x256x2x256x2x16.Slices ![0, 0, 0, 0, 1, 0] S8x256x1x256x1x16
  shapeCasts_S8x256x1x256x1x16_S8x256x256x16 : S8x256x1x256x1x16.ShapeCasts S8x256x256x16
  slices_S8x256x2x256x2x16_S8x256x1x256x1x16_0_0_1_0_1_0 : S8x256x2x256x2x16.Slices ![0, 0, 1, 0, 1, 0] S8x256x1x256x1x16
  bcast_S_S8x256x256x16 : S_.BroadcastsInDim S8x256x256x16 (![] : Fin 0 → Fin S8x256x256x16.rank)

variable [Facts]

def fn {F : FTy → Type} [FloatOps F] (main_arg0 : FVec F S8x512x512x16 .f32) : IVec S8x256x256x16 1 × IVec S8x256x256x16 1 × IVec S8x256x256x16 1 × IVec S8x256x256x16 1 :=
  let main_v0 : FVec F S8x256x2x256x2x16 .f32 := shapeCast S8x256x2x256x2x16 main_arg0 shapeCasts_S8x512x512x16_S8x256x2x256x2x16
  let main_v1 : FVec F S8x256x1x256x1x16 .f32 := (extractStridedSlice S8x256x1x256x1x16 ![0, 0, 0, 0, 1, 0] · slices_S8x256x2x256x2x16_S8x256x1x256x1x16_0_0_0_0_1_0) main_v0
  let main_v2 : FVec F S8x256x256x16 .f32 := shapeCast S8x256x256x16 main_v1 shapeCasts_S8x256x1x256x1x16_S8x256x256x16
  let main_v3 : FVec F S8x256x1x256x1x16 .f32 := (extractStridedSlice S8x256x1x256x1x16 ![0, 0, 1, 0, 1, 0] · slices_S8x256x2x256x2x16_S8x256x1x256x1x16_0_0_1_0_1_0) main_v0
  let main_v4 : FVec F S8x256x256x16 .f32 := shapeCast S8x256x256x16 main_v3 shapeCasts_S8x256x1x256x1x16_S8x256x256x16
  let main_v5 : FVec F S8x256x256x16 .f32 := Host.absf main_v2
  let main_cst : FVec F S_ .f32 := constant S_ .f32 0x7F800000#32
  let main_v6 : FVec F S8x256x256x16 .f32 := broadcastInDim S8x256x256x16 ![] bcast_S_S8x256x256x16 main_cst
  let main_v7 : IVec S8x256x256x16 1 := cmpf .olt main_v5 main_v6
  let main_v8 : FVec F S8x256x256x16 .f32 := Host.absf main_v4
  let main_cst_0 : FVec F S_ .f32 := constant S_ .f32 0x7F800000#32
  let main_v9 : FVec F S8x256x256x16 .f32 := broadcastInDim S8x256x256x16 ![] bcast_S_S8x256x256x16 main_cst_0
  let main_v10 : IVec S8x256x256x16 1 := cmpf .olt main_v8 main_v9
  let main_v11 : IVec S8x256x256x16 1 := ori main_v7 main_v10
  let main_c : IVec S_ 1 := constantI S_ 1 1#1
  let main_v12 : IVec S8x256x256x16 1 := broadcastInDim S8x256x256x16 ![] bcast_S_S8x256x256x16 main_c
  (main_v12, main_v11, main_v12, main_v11)
-- ==== Pre_one_finite.lean ====
abbrev S8x512x512x16 : Shape := ⟨4, ![8, 512, 512, 16]⟩
abbrev S8x256x2x256x2x16 : Shape := ⟨6, ![8, 256, 2, 256, 2, 16]⟩
abbrev S8x256x1x256x1x16 : Shape := ⟨6, ![8, 256, 1, 256, 1, 16]⟩
abbrev S8x256x256x16 : Shape := ⟨4, ![8, 256, 256, 16]⟩
abbrev S_ : Shape := ⟨0, ![]⟩

class Facts : Prop where
  shapeCasts_S8x512x512x16_S8x256x2x256x2x16 : S8x512x512x16.ShapeCasts S8x256x2x256x2x16
  slices_S8x256x2x256x2x16_S8x256x1x256x1x16_0_0_0_0_1_0 : S8x256x2x256x2x16.Slices ![0, 0, 0, 0, 1, 0] S8x256x1x256x1x16
  shapeCasts_S8x256x1x256x1x16_S8x256x256x16 : S8x256x1x256x1x16.ShapeCasts S8x256x256x16
  slices_S8x256x2x256x2x16_S8x256x1x256x1x16_0_0_1_0_1_0 : S8x256x2x256x2x16.Slices ![0, 0, 1, 0, 1, 0] S8x256x1x256x1x16
  bcast_S_S8x256x256x16 : S_.BroadcastsInDim S8x256x256x16 (![] : Fin 0 → Fin S8x256x256x16.rank)

variable [Facts]

def fn {F : FTy → Type} [FloatOps F] (main_arg0 : FVec F S8x512x512x16 .f32) : IVec S8x256x256x16 1 :=
  let main_v0 : FVec F S8x256x2x256x2x16 .f32 := shapeCast S8x256x2x256x2x16 main_arg0 shapeCasts_S8x512x512x16_S8x256x2x256x2x16
  let main_v1 : FVec F S8x256x1x256x1x16 .f32 := (extractStridedSlice S8x256x1x256x1x16 ![0, 0, 0, 0, 1, 0] · slices_S8x256x2x256x2x16_S8x256x1x256x1x16_0_0_0_0_1_0) main_v0
  let main_v2 : FVec F S8x256x256x16 .f32 := shapeCast S8x256x256x16 main_v1 shapeCasts_S8x256x1x256x1x16_S8x256x256x16
  let main_v3 : FVec F S8x256x1x256x1x16 .f32 := (extractStridedSlice S8x256x1x256x1x16 ![0, 0, 1, 0, 1, 0] · slices_S8x256x2x256x2x16_S8x256x1x256x1x16_0_0_1_0_1_0) main_v0
  let main_v4 : FVec F S8x256x256x16 .f32 := shapeCast S8x256x256x16 main_v3 shapeCasts_S8x256x1x256x1x16_S8x256x256x16
  let main_v5 : FVec F S8x256x256x16 .f32 := Host.absf main_v2
  let main_cst : FVec F S_ .f32 := constant S_ .f32 0x7F800000#32
  let main_v6 : FVec F S8x256x256x16 .f32 := broadcastInDim S8x256x256x16 ![] bcast_S_S8x256x256x16 main_cst
  let main_v7 : IVec S8x256x256x16 1 := cmpf .olt main_v5 main_v6
  let main_v8 : FVec F S8x256x256x16 .f32 := Host.absf main_v4
  let main_cst_0 : FVec F S_ .f32 := constant S_ .f32 0x7F800000#32
  let main_v9 : FVec F S8x256x256x16 .f32 := broadcastInDim S8x256x256x16 ![] bcast_S_S8x256x256x16 main_cst_0
  let main_v10 : IVec S8x256x256x16 1 := cmpf .olt main_v8 main_v9
  let main_v11 : IVec S8x256x256x16 1 := ori main_v7 main_v10
  main_v11
-- ==== Kernel.lean ====
abbrev S8x512x512x16 : Shape := ⟨4, ![8, 512, 512, 16]⟩
abbrev S8x512x16x512 : Shape := ⟨4, ![8, 512, 16, 512]⟩
abbrev S2048x2x16x512 : Shape := ⟨4, ![2048, 2, 16, 512]⟩
abbrev S2048x16x256 : Shape := ⟨3, ![2048, 16, 256]⟩
abbrev S128x2x16x512 : Shape := ⟨4, ![128, 2, 16, 512]⟩
abbrev S128x16x256 : Shape := ⟨3, ![128, 16, 256]⟩
abbrev S128x1x16x512 : Shape := ⟨4, ![128, 1, 16, 512]⟩
abbrev S128x16x512 : Shape := ⟨3, ![128, 16, 512]⟩
abbrev S1x1x128 : Shape := ⟨3, ![1, 1, 128]⟩
abbrev S128x16x128 : Shape := ⟨3, ![128, 16, 128]⟩
abbrev S128x16x128x1 : Shape := ⟨4, ![128, 16, 128, 1]⟩
abbrev S8x256x16x256 : Shape := ⟨4, ![8, 256, 16, 256]⟩
abbrev S8x256x256x16 : Shape := ⟨4, ![8, 256, 256, 16]⟩

abbrev nBuf : Space → Nat
  | .hbm => 15
  | .vmem => 10
  | .smem => 0
  | _ => 0

abbrev bufTy : (tb : Table) → Fin (tcTables nBuf tb) → BufTy
  | .hbm, ⟨0, _⟩ => ⟨S8x512x512x16, .f32⟩
  | .hbm, ⟨1, _⟩ => ⟨S8x512x16x512, .f32⟩
  | .hbm, ⟨2, _⟩ => ⟨S2048x2x16x512, .f32⟩
  | .hbm, ⟨3, _⟩ => ⟨S2048x16x256, .f32⟩
  | .hbm, ⟨4, _⟩ => ⟨S2048x16x256, .f32⟩
  | .hbm, ⟨5, _⟩ => ⟨S2048x16x256, .f32⟩
  | .hbm, ⟨6, _⟩ => ⟨S2048x16x256, .f32⟩
  | .hbm, ⟨7, _⟩ => ⟨S8x256x16x256, .f32⟩
  | .hbm, ⟨8, _⟩ => ⟨S8x256x256x16, .f32⟩
  | .hbm, ⟨9, _⟩ => ⟨S8x256x16x256, .f32⟩
  | .hbm, ⟨10, _⟩ => ⟨S8x256x256x16, .f32⟩
  | .hbm, ⟨11, _⟩ => ⟨S8x256x16x256, .f32⟩
  | .hbm, ⟨12, _⟩ => ⟨S8x256x256x16, .f32⟩
  | .hbm, ⟨13, _⟩ => ⟨S8x256x16x256, .f32⟩
  | .hbm, ⟨14, _⟩ => ⟨S8x256x256x16, .f32⟩
  | .local _ .vmem, ⟨0, _⟩ => ⟨S128x2x16x512, .f32⟩
  | .local _ .vmem, ⟨1, _⟩ => ⟨S128x2x16x512, .f32⟩
  | .local _ .vmem, ⟨2, _⟩ => ⟨S128x16x256, .f32⟩
  | .local _ .vmem, ⟨3, _⟩ => ⟨S128x16x256, .f32⟩
  | .local _ .vmem, ⟨4, _⟩ => ⟨S128x16x256, .f32⟩
  | .local _ .vmem, ⟨5, _⟩ => ⟨S128x16x256, .f32⟩
  | .local _ .vmem, ⟨6, _⟩ => ⟨S128x16x256, .f32⟩
  | .local _ .vmem, ⟨7, _⟩ => ⟨S128x16x256, .f32⟩
  | .local _ .vmem, ⟨8, _⟩ => ⟨S128x16x256, .f32⟩
  | .local _ .vmem, ⟨9, _⟩ => ⟨S128x16x256, .f32⟩
  | _, _ => ⟨S8x512x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2_0 : Ref sig .tc := ⟨.hbm, 3, rfl⟩
abbrev main_v2_1 : Ref sig .tc := ⟨.hbm, 4, rfl⟩
abbrev main_v2_2 : Ref sig .tc := ⟨.hbm, 5, rfl⟩
abbrev main_v2_3 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x512x512x16 : Shape := ⟨4, ![8, 512, 512, 16]⟩
abbrev S8x256x2x256x2x16 : Shape := ⟨6, ![8, 256, 2, 256, 2, 16]⟩
abbrev S8x256x1x256x1x16 : Shape := ⟨6, ![8, 256, 1, 256, 1, 16]⟩
abbrev S8x256x256x16 : Shape := ⟨4, ![8, 256, 256, 16]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8x512x512x16, .f32⟩
  | .hbm, ⟨1, _⟩ => ⟨S8x256x2x256x2x16, .f32⟩
  | .hbm, ⟨2, _⟩ => ⟨S8x256x1x256x1x16, .f32⟩
  | .hbm, ⟨3, _⟩ => ⟨S8x256x256x16, .f32⟩
  | .hbm, ⟨4, _⟩ => ⟨S8x256x1x256x1x16, .f32⟩
  | .hbm, ⟨5, _⟩ => ⟨S8x256x256x16, .f32⟩
  | .hbm, ⟨6, _⟩ => ⟨S8x256x1x256x1x16, .f32⟩
  | .hbm, ⟨7, _⟩ => ⟨S8x256x256x16, .f32⟩
  | .hbm, ⟨8, _⟩ => ⟨S8x256x1x256x1x16, .f32⟩
  | .hbm, ⟨9, _⟩ => ⟨S8x256x256x16, .f32⟩
  | .hbm, ⟨10, _⟩ => ⟨S8x256x256x16, .f32⟩
  | .hbm, ⟨11, _⟩ => ⟨S8x256x256x16, .f32⟩
  | .hbm, ⟨12, _⟩ => ⟨S8x256x256x16, .f32⟩
  | .hbm, ⟨13, _⟩ => ⟨S_, .f32⟩
  | .hbm, ⟨14, _⟩ => ⟨S8x256x256x16, .f32⟩
  | .hbm, ⟨15, _⟩ => ⟨S8x256x256x16, .f32⟩
  | .hbm, ⟨16, _⟩ => ⟨S8x256x256x16, .f32⟩
  | .hbm, ⟨17, _⟩ => ⟨S8x256x256x16, .f32⟩
  | .hbm, ⟨18, _⟩ => ⟨S8x256x256x16, .f32⟩
  | .hbm, ⟨19, _⟩ => ⟨S_, .f32⟩
  | .hbm, ⟨20, _⟩ => ⟨S8x256x256x16, .f32⟩
  | .hbm, ⟨21, _⟩ => ⟨S8x256x256x16, .f32⟩
  | .hbm, ⟨22, _⟩ => ⟨S8x256x256x16, .f32⟩
  | .hbm, ⟨23, _⟩ => ⟨S8x256x256x16, .f32⟩
  | .hbm, ⟨24, _⟩ => ⟨S8x256x256x16, .f32⟩
  | .hbm, ⟨25, _⟩ => ⟨S_, .f32⟩
  | .hbm, ⟨26, _⟩ => ⟨S8x256x256x16, .f32⟩
  | .hbm, ⟨27, _⟩ => ⟨S8x256x256x16, .f32⟩
  | .hbm, ⟨28, _⟩ => ⟨S8x256x256x16, .f32⟩
  | .hbm, ⟨29, _⟩ => ⟨S8x256x256x16, .f32⟩
  | .hbm, ⟨30, _⟩ => ⟨S8x256x256x16, .f32⟩
  | .hbm, ⟨31, _⟩ => ⟨S_, .f32⟩
  | .hbm, ⟨32, _⟩ => ⟨S8x256x256x16, .f32⟩
  | .hbm, ⟨33, _⟩ => ⟨S8x256x256x16, .f32⟩
  | _, _ => ⟨S8x512x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst_0 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_cst_1 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_2 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Proof.Lanes.lean ====
/- The lanes of one vector of 128 columns. The kernel sets the even columns before the odd ones with a gather, rotates
   that by half the lanes, and adds or subtracts the two; this module says which columns meet in which lane, and what a
   whole row of 512 columns becomes: the sums, or the differences, of its 256 pairs of neighbouring columns. -/
module

public import proofs.«01_k».proof.Proof.Gen.KernelIdeal.Frame
public import Idealize.ShloMosaic.Lib.Pointwise

@[expose] public section

set_option maxRecDepth 16384

noncomputable section

namespace Cert.KernelIdeal.Haar

open Cert.KernelIdeal Cert.KernelIdeal.Gen Idealize.ShloMosaic

/-- The gather's indices over a whole vector, as every one of the kernel's gathers is given them: the permutation of one
    row of lanes, repeated over the rows, a negative entry raised by 128 (there is none). -/
abbrev picks : IVec S128x16x128 32 :=
  shapeCast S128x16x128 (shapeCast S128x16x128x1 (select k0_pay15 (addi k0_pay14 (broadcast S128x16x128 128#32)) k0_pay14)
    shapeCasts_S128x16x128_S128x16x128x1) shapeCasts_S128x16x128x1_S128x16x128

/-- The lanes below 64, over a whole vector. -/
abbrev lower : IVec S128x16x128 1 :=
  broadcastTo S128x16x128 (shapeCast S1x1x128 k0_pay10 shapeCasts_S1x1x128_S1x1x128) broadcasts_S1x1x128_S128x16x128

/-- Which of the 128 columns lane `l` is given: the even columns first, then the odd ones. -/
def column (l : Fin 128) : Fin 128 :=
  if h : l.val < 64 then ⟨2 * l.val, by omega⟩ else ⟨2 * (l.val - 64) + 1, by omega⟩

/-- The lane that the rotation by half the lanes brings to lane `l`. -/
def across (l : Fin 128) : Fin 128 := ⟨(l.val + 64) % 128, Nat.mod_lt _ (by decide)⟩

/-- The gather's index at every lane, computed as the kernel computes it. -/
theorem pick_word : ∀ l : Fin 128,
    (Scalar.select
      (IntOp.cmpi CmpIPredicate.slt
        (Scalar.select (IntOp.cmpi CmpIPredicate.slt (BitVec.ofNat 32 l.val) 64#32)
          (IntOp.muli 2#32 (BitVec.ofNat 32 l.val))
          (IntOp.addi (IntOp.muli 2#32 (IntOp.subi (BitVec.ofNat 32 l.val) 64#32)) 1#32)) 0#32)
      (IntOp.addi
        (Scalar.select (IntOp.cmpi CmpIPredicate.slt (BitVec.ofNat 32 l.val) 64#32)
          (IntOp.muli 2#32 (BitVec.ofNat 32 l.val))
          (IntOp.addi (IntOp.muli 2#32 (IntOp.subi (BitVec.ofNat 32 l.val) 64#32)) 1#32)) 128#32)
      (Scalar.select (IntOp.cmpi CmpIPredicate.slt (BitVec.ofNat 32 l.val) 64#32)
        (IntOp.muli 2#32 (BitVec.ofNat 32 l.val))
        (IntOp.addi (IntOp.muli 2#32 (IntOp.subi (BitVec.ofNat 32 l.val) 64#32)) 1#32))).toNat
      = (column l).val := by
  decide +kernel

/-- The comparison of every lane's number with 64. -/
theorem lower_word : ∀ l : Fin 128,
    IntOp.cmpi CmpIPredicate.slt (BitVec.ofNat 32 l.val) 64#32 = if l.val < 64 then 1#1 else 0#1 := by
  decide +kernel

/-- The gather's index at lane `l` is `column l`. -/
theorem picks_at (y : S128x16x128.Idx) : (picks y).toNat = (column (y 2)).val := by
  refine Eq.trans ?_ (pick_word (y 2))
  pointwise [picks, k0_pay15, k0_pay14, k0_pay9]

/-- The mask of the lower lanes, read at an index. -/
theorem lower_at (y : S128x16x128.Idx) : lower y = if (y 2).val < 64 then 1#1 else 0#1 := by
  refine Eq.trans ?_ (lower_word (y 2))
  pointwise [lower, k0_pay10]

/-- The gather brings column `column l` to lane `l`. -/
theorem gather_at (x : FVec Ideal S128x16x128 .f32) (y : S128x16x128.Idx) :
    dynamicGather 2 x picks y = x (ix3 (y 0) (y 1) (column (y 2))) := by
  have h := picks_at y
  have hl := (column (y 2)).isLt
  unfold dynamicGather
  refine congrArg x (funext fun a => ?_)
  fin_cases a
  · rfl
  · rfl
  · apply Fin.ext
    show (picks y).toNat % 128 = (column (y 2)).val
    rw [h, Nat.mod_eq_of_lt hl]

/-- The rotation brings lane `across l` to lane `l`. -/
theorem rot_at (x : FVec Ideal S128x16x128 .f32) (y : S128x16x128.Idx) :
    dynamicRotate 2 64#32 none x rotates_S128x16x128_d2 y = x (ix3 (y 0) (y 1) (across (y 2))) := by
  pointwise
  refine congrArg x (funext fun a => ?_)
  fin_cases a
  · rfl
  · rfl
  · apply Fin.ext
    show ((y 2).val + 128 - 64) % 128 = ((y 2).val + 64) % 128
    omega

/-- The pair of neighbouring columns that lane `l` works on: number `l` of the 64 in the first vector for a lane below
    64, number `l - 64` of the second vector's for the others. -/
def pair (l : Fin 128) : ℕ := if l.val < 64 then l.val else l.val - 64

/-- There are 64 pairs in a vector of 128 columns. -/
theorem pair_lt (l : Fin 128) : pair l < 64 := by have := l.isLt; unfold pair; split <;> omega

/-- The first column of lane `l`'s pair. -/
def left (l : Fin 128) : Fin 128 := ⟨2 * pair l, by have := pair_lt l; omega⟩
/-- The second column of lane `l`'s pair. -/
def right (l : Fin 128) : Fin 128 := ⟨2 * pair l + 1, by have := pair_lt l; omega⟩

/-- Below lane 64 the gather brings a pair's left column and the rotation its right one; from lane 64 on it is the
    other way round. -/
theorem columns : ∀ l : Fin 128,
    (l.val < 64 → column l = left l ∧ column (across l) = right l) ∧
    (¬ l.val < 64 → column l = right l ∧ column (across l) = left l) := by
  decide +kernel

/-- The sums of neighbouring columns of two vectors, side by side in one: gathered, rotated, added, and the halves
    taken from the first vector and from the second. -/
abbrev sums (u v : FVec Ideal S128x16x128 .f32) : FVec Ideal S128x16x128 .f32 :=
  select lower (addf (dynamicGather 2 u picks) (dynamicRotate 2 64#32 none (dynamicGather 2 u picks) rotates_S128x16x128_d2))
    (addf (dynamicGather 2 v picks) (dynamicRotate 2 64#32 none (dynamicGather 2 v picks) rotates_S128x16x128_d2))

/-- The differences of neighbouring columns of two vectors, side by side in one. -/
abbrev differences (u v : FVec Ideal S128x16x128 .f32) : FVec Ideal S128x16x128 .f32 :=
  select lower (subf (dynamicGather 2 u picks) (dynamicRotate 2 64#32 none (dynamicGather 2 u picks) rotates_S128x16x128_d2))
    (subf (dynamicRotate 2 64#32 none (dynamicGather 2 v picks) rotates_S128x16x128_d2) (dynamicGather 2 v picks))

/-- Lane `l` of the sums: the two columns of its pair added, from the first vector below lane 64, else the second. -/
theorem sums_at (u v : FVec Ideal S128x16x128 .f32) (y : S128x16x128.Idx) :
    sums u v y = if (y 2).val < 64 then (u (ix3 (y 0) (y 1) (left (y 2))) : EReal) + u (ix3 (y 0) (y 1) (right (y 2)))
      else v (ix3 (y 0) (y 1) (left (y 2))) + v (ix3 (y 0) (y 1) (right (y 2))) := by
  have hc := columns (y 2)
  show Scalar.select (lower y) ((dynamicGather 2 u picks y : EReal) + dynamicRotate 2 64#32 none (dynamicGather 2 u picks) rotates_S128x16x128_d2 y)
    ((dynamicGather 2 v picks y : EReal) + dynamicRotate 2 64#32 none (dynamicGather 2 v picks) rotates_S128x16x128_d2 y) = _
  rw [lower_at, rot_at, rot_at, gather_at, gather_at, gather_at, gather_at]
  by_cases h : (y 2).val < 64
  · rw [if_pos h, if_pos h, (hc.1 h).1]
    show (u (ix3 (y 0) (y 1) (left (y 2))) : EReal) + u (ix3 (y 0) (y 1) (column (across (y 2)))) = _
    rw [(hc.1 h).2]
  · rw [if_neg h, if_neg h, (hc.2 h).1]
    show (v (ix3 (y 0) (y 1) (right (y 2))) : EReal) + v (ix3 (y 0) (y 1) (column (across (y 2)))) = _
    rw [(hc.2 h).2, add_comm]

/-- Lane `l` of the differences: the second column of its pair taken from the first, chosen the same way. -/
theorem differences_at (u v : FVec Ideal S128x16x128 .f32) (y : S128x16x128.Idx) :
    differences u v y = if (y 2).val < 64 then (u (ix3 (y 0) (y 1) (left (y 2))) : EReal) - u (ix3 (y 0) (y 1) (right (y 2)))
      else v (ix3 (y 0) (y 1) (left (y 2))) - v (ix3 (y 0) (y 1) (right (y 2))) := by
  have hc := columns (y 2)
  show Scalar.select (lower y) ((dynamicGather 2 u picks y : EReal) - dynamicRotate 2 64#32 none (dynamicGather 2 u picks) rotates_S128x16x128_d2 y)
    ((dynamicRotate 2 64#32 none (dynamicGather 2 v picks) rotates_S128x16x128_d2 y : EReal) - dynamicGather 2 v picks y) = _
  rw [lower_at, rot_at, rot_at, gather_at, gather_at, gather_at, gather_at]
  by_cases h : (y 2).val < 64
  · rw [if_pos h, if_pos h, (hc.1 h).1]
    show (u (ix3 (y 0) (y 1) (left (y 2))) : EReal) - u (ix3 (y 0) (y 1) (column (across (y 2)))) = _
    rw [(hc.1 h).2]
  · rw [if_neg h, if_neg h, (hc.2 h).1]
    show (v (ix3 (y 0) (y 1) (column (across (y 2)))) : EReal) - v (ix3 (y 0) (y 1) (right (y 2))) = _
    rw [(hc.2 h).2]

/-- The first of the four vectors of 128 columns that a row of 512 is cut into: columns 0 to 127. -/
abbrev part0 (x : FVec Ideal S128x16x512 .f32) : FVec Ideal S128x16x128 .f32 :=
  extractStridedSlice S128x16x128 ![0, 0, 0] x slices_S128x16x512_o0_0_0_S128x16x128
/-- Columns 128 to 255 of the row. -/
abbrev part1 (x : FVec Ideal S128x16x512 .f32) : FVec Ideal S128x16x128 .f32 :=
  extractStridedSlice S128x16x128 ![0, 0, 128] x slices_S128x16x512_o0_0_128_S128x16x128
/-- Columns 256 to 383 of the row. -/
abbrev part2 (x : FVec Ideal S128x16x512 .f32) : FVec Ideal S128x16x128 .f32 :=
  extractStridedSlice S128x16x128 ![0, 0, 256] x slices_S128x16x512_o0_0_256_S128x16x128
/-- Columns 384 to 511 of the row. -/
abbrev part3 (x : FVec Ideal S128x16x512 .f32) : FVec Ideal S128x16x128 .f32 :=
  extractStridedSlice S128x16x128 ![0, 0, 384] x slices_S128x16x512_o0_0_384_S128x16x128

/-- The first column of pair `w` of a row of 512. -/
def even (w : Fin 256) : Fin 512 := ⟨2 * w.val, by omega⟩
/-- The second column of pair `w` of a row of 512. -/
def odd (w : Fin 256) : Fin 512 := ⟨2 * w.val + 1, by omega⟩

/-- Two vectors of 128 set end to end, read at an index. -/
theorem ends_at (u v : FVec Ideal S128x16x128 .f32) (y : S128x16x256.Idx) :
    concatenate S128x16x256 2 [⟨S128x16x128, u⟩, ⟨S128x16x128, v⟩] concatenates_S128x16x128_S128x16x128_S128x16x256_d2 y
      = if h : (y 2).val < 128 then u (ix3 (y 0) (y 1) ⟨(y 2).val, h⟩)
        else v (ix3 (y 0) (y 1) ⟨(y 2).val - 128, by have : (y 2).val < 256 := (y 2).isLt; omega⟩) := by
  pointwise

/-- The 256 sums of neighbouring columns of a row of 512, as the kernel puts them together. -/
abbrev rowSums (x : FVec Ideal S128x16x512 .f32) : FVec Ideal S128x16x256 .f32 :=
  concatenate S128x16x256 2 [⟨S128x16x128, sums (part0 x) (part1 x)⟩, ⟨S128x16x128, sums (part2 x) (part3 x)⟩]
    concatenates_S128x16x128_S128x16x128_S128x16x256_d2

/-- The 256 differences of neighbouring columns of a row of 512, as the kernel puts them together. -/
abbrev rowDifferences (x : FVec Ideal S128x16x512 .f32) : FVec Ideal S128x16x256 .f32 :=
  concatenate S128x16x256 2 [⟨S128x16x128, differences (part0 x) (part1 x)⟩, ⟨S128x16x128, differences (part2 x) (part3 x)⟩]
    concatenates_S128x16x128_S128x16x128_S128x16x256_d2

/-- The first part read at its column `c` is the row read at column `c`. -/
theorem part0_at (x : FVec Ideal S128x16x512 .f32) (a : Fin 128) (b : Fin 16) (c : Fin 128) (k : Fin 512) (hk : k.val = c.val) :
    part0 x (ix3 a b c) = x (ix3 a b k) := by
  pointwise [part0]
  exact congrArg x (congrArg (ix3 a b) (Fin.ext hk.symm))
/-- The same of the second part, which starts at column 128. -/
theorem part1_at (x : FVec Ideal S128x16x512 .f32) (a : Fin 128) (b : Fin 16) (c : Fin 128) (k : Fin 512) (hk : k.val = 128 + c.val) :
    part1 x (ix3 a b c) = x (ix3 a b k) := by
  pointwise [part1]
  exact congrArg x (congrArg (ix3 a b) (Fin.ext hk.symm))
/-- The same of the third part, which starts at column 256. -/
theorem part2_at (x : FVec Ideal S128x16x512 .f32) (a : Fin 128) (b : Fin 16) (c : Fin 128) (k : Fin 512) (hk : k.val = 256 + c.val) :
    part2 x (ix3 a b c) = x (ix3 a b k) := by
  pointwise [part2]
  exact congrArg x (congrArg (ix3 a b) (Fin.ext hk.symm))
/-- The same of the fourth part, which starts at column 384. -/
theorem part3_at (x : FVec Ideal S128x16x512 .f32) (a : Fin 128) (b : Fin 16) (c : Fin 128) (k : Fin 512) (hk : k.val = 384 + c.val) :
    part3 x (ix3 a b c) = x (ix3 a b k) := by
  pointwise [part3]
  exact congrArg x (congrArg (ix3 a b) (Fin.ext hk.symm))

/-- The pair of a lane below 64. -/
theorem pair_below {l : Fin 128} (h : l.val < 64) : pair l = l.val := if_pos h
/-- The pair of a lane from 64 on. -/
theorem pair_above {l : Fin 128} (h : ¬ l.val < 64) : pair l = l.val - 64 := if_neg h

/-- Work done on the pairs of two vectors at a time, on the first two parts of a row and on its last two, is the same
    work done on the pairs of the row. -/
theorem row_of_parts (op : EReal → EReal → EReal)
    (s : FVec Ideal S128x16x128 .f32 → FVec Ideal S128x16x128 .f32 → FVec Ideal S128x16x128 .f32)
    (hs : ∀ u v z, s u v z = if (z 2).val < 64 then op (u (ix3 (z 0) (z 1) (left (z 2)))) (u (ix3 (z 0) (z 1) (right (z 2))))
      else op (v (ix3 (z 0) (z 1) (left (z 2)))) (v (ix3 (z 0) (z 1) (right (z 2)))))
    (x : FVec Ideal S128x16x512 .f32) (y : S128x16x256.Idx) :
    concatenate S128x16x256 2 [⟨S128x16x128, s (part0 x) (part1 x)⟩, ⟨S128x16x128, s (part2 x) (part3 x)⟩]
      concatenates_S128x16x128_S128x16x128_S128x16x256_d2 y
      = op (x (ix3 (y 0) (y 1) (even (y 2)))) (x (ix3 (y 0) (y 1) (odd (y 2)))) := by
  have hw : (y 2).val < 256 := (y 2).isLt
  rw [ends_at]
  split
  · rename_i h
    rw [hs]
    by_cases h' : (y 2).val < 64
    · have hp : pair ⟨(y 2).val, h⟩ = (y 2).val := pair_below h'
      refine (if_pos h').trans (congrArg₂ op (part0_at x _ _ _ _ ?_) (part0_at x _ _ _ _ ?_))
      · show 2 * (y 2).val = 2 * pair ⟨(y 2).val, h⟩
        omega
      · show 2 * (y 2).val + 1 = 2 * pair ⟨(y 2).val, h⟩ + 1
        omega
    · have hp : pair ⟨(y 2).val, h⟩ = (y 2).val - 64 := pair_above h'
      refine (if_neg h').trans (congrArg₂ op (part1_at x _ _ _ _ ?_) (part1_at x _ _ _ _ ?_))
      · show 2 * (y 2).val = 128 + 2 * pair ⟨(y 2).val, h⟩
        omega
      · show 2 * (y 2).val + 1 = 128 + (2 * pair ⟨(y 2).val, h⟩ + 1)
        omega
  · rename_i h
    have hl : (y 2).val - 128 < 128 := by omega
    rw [hs]
    by_cases h' : (y 2).val - 128 < 64
    · have hp : pair ⟨(y 2).val - 128, hl⟩ = (y 2).val - 128 := pair_below h'
      refine (if_pos h').trans (congrArg₂ op (part2_at x _ _ _ _ ?_) (part2_at x _ _ _ _ ?_))
      · show 2 * (y 2).val = 256 + 2 * pair ⟨(y 2).val - 128, hl⟩
        omega
      · show 2 * (y 2).val + 1 = 256 + (2 * pair ⟨(y 2).val - 128, hl⟩ + 1)
        omega
    · have hp : pair ⟨(y 2).val - 128, hl⟩ = (y 2).val - 128 - 64 := pair_above h'
      refine (if_neg h').trans (congrArg₂ op (part3_at x _ _ _ _ ?_) (part3_at x _ _ _ _ ?_))
      · show 2 * (y 2).val = 384 + 2 * pair ⟨(y 2).val - 128, hl⟩
        omega
      · show 2 * (y 2).val + 1 = 384 + (2 * pair ⟨(y 2).val - 128, hl⟩ + 1)
        omega

/-- Column `w` of the row sums is column `2w` plus column `2w + 1` of the row. -/
theorem rowSums_at (x : FVec Ideal S128x16x512 .f32) (y : S128x16x256.Idx) :
    rowSums x y = (x (ix3 (y 0) (y 1) (even (y 2))) : EReal) + x (ix3 (y 0) (y 1) (odd (y 2))) :=
  row_of_parts (fun p q => p + q) sums sums_at x y

/-- Column `w` of the row differences is column `2w` less column `2w + 1` of the row. -/
theorem rowDifferences_at (x : FVec Ideal S128x16x512 .f32) (y : S128x16x256.Idx) :
    rowDifferences x y = (x (ix3 (y 0) (y 1) (even (y 2))) : EReal) - x (ix3 (y 0) (y 1) (odd (y 2))) :=
  row_of_parts (fun p q => p - q) differences differences_at x y

end Cert.KernelIdeal.Haar

end
-- ==== Proof.Block.lean ====
/- One block of the grid: what the kernel stores at an index of each of its four blocks, in the four samples that the
   index stands for. -/
module

public import proofs.«01_k».proof.Proof.Lanes
public import Idealize.ShloMosaic.Lib.Pipeline.ValueKit

@[expose] public section

set_option maxRecDepth 16384

noncomputable section

namespace Cert.KernelIdeal.Haar

open Cert.KernelIdeal Cert.KernelIdeal.Gen Idealize.ShloMosaic

/-- One half, as the constant both programs write. -/
abbrev half : EReal := Ideal.ofBits .f32 0x3F000000#32

/-- The half sum of a block's two rows, at one channel and one column. -/
theorem rowMean_at (x : FVec Ideal S128x2x16x512 .f32) (a : Fin 128) (b : Fin 16) (k : Fin 512) :
    k0_pay7 x (ix3 a b k) = ((x (ix4 a 0 b k) : EReal) + x (ix4 a 1 b k)) * half := by
  pointwise [k0_pay7, k0_pay6, k0_pay5, k0_pay4]

/-- The half difference of a block's two rows, at one channel and one column. -/
theorem rowGap_at (x : FVec Ideal S128x2x16x512 .f32) (a : Fin 128) (b : Fin 16) (k : Fin 512) :
    k0_pay8 x (ix3 a b k) = ((x (ix4 a 0 b k) : EReal) - x (ix4 a 1 b k)) * half := by
  pointwise [k0_pay8, k0_pay6, k0_pay5, k0_pay4]

/-- The first stored block: the row sums of the half sums. -/
theorem out1_rows (x : FVec Ideal S128x2x16x512 .f32) : out0_1 (F := Ideal) x = rowSums (k0_pay7 x) := by
  unfold_out out0_1
  frame_out
  rfl

/-- The second stored block: the row differences of the half sums. -/
theorem out2_rows (x : FVec Ideal S128x2x16x512 .f32) : out0_2 (F := Ideal) x = rowDifferences (k0_pay7 x) := by
  unfold_out out0_2
  frame_out
  rfl

/-- The third stored block: the row sums of the half differences. -/
theorem out3_rows (x : FVec Ideal S128x2x16x512 .f32) : out0_3 (F := Ideal) x = rowSums (k0_pay8 x) := by
  unfold_out out0_3
  frame_out
  rfl

/-- The fourth stored block: the row differences of the half differences. -/
theorem out4_rows (x : FVec Ideal S128x2x16x512 .f32) : out0_4 (F := Ideal) x = rowDifferences (k0_pay8 x) := by
  unfold_out out0_4
  frame_out
  rfl

/-- The first block at an index: the half sums of the left column and of the right one, added. -/
theorem out1_at (x : FVec Ideal S128x2x16x512 .f32) (y : S128x16x256.Idx) : out0_1 (F := Ideal) x y =
    ((x (ix4 (y 0) 0 (y 1) (even (y 2))) : EReal) + x (ix4 (y 0) 1 (y 1) (even (y 2)))) * half
      + ((x (ix4 (y 0) 0 (y 1) (odd (y 2))) : EReal) + x (ix4 (y 0) 1 (y 1) (odd (y 2)))) * half := by
  rw [out1_rows]
  exact (rowSums_at _ y).trans (congrArg₂ (fun p q : EReal => p + q) (rowMean_at ..) (rowMean_at ..))

/-- The second block at an index: the right column's half sum taken from the left one's. -/
theorem out2_at (x : FVec Ideal S128x2x16x512 .f32) (y : S128x16x256.Idx) : out0_2 (F := Ideal) x y =
    ((x (ix4 (y 0) 0 (y 1) (even (y 2))) : EReal) + x (ix4 (y 0) 1 (y 1) (even (y 2)))) * half
      - ((x (ix4 (y 0) 0 (y 1) (odd (y 2))) : EReal) + x (ix4 (y 0) 1 (y 1) (odd (y 2)))) * half := by
  rw [out2_rows]
  exact (rowDifferences_at _ y).trans (congrArg₂ (fun p q : EReal => p - q) (rowMean_at ..) (rowMean_at ..))

/-- The third block at an index: the half differences of the left column and of the right one, added. -/
theorem out3_at (x : FVec Ideal S128x2x16x512 .f32) (y : S128x16x256.Idx) : out0_3 (F := Ideal) x y =
    ((x (ix4 (y 0) 0 (y 1) (even (y 2))) : EReal) - x (ix4 (y 0) 1 (y 1) (even (y 2)))) * half
      + ((x (ix4 (y 0) 0 (y 1) (odd (y 2))) : EReal) - x (ix4 (y 0) 1 (y 1) (odd (y 2)))) * half := by
  rw [out3_rows]
  exact (rowSums_at _ y).trans (congrArg₂ (fun p q : EReal => p + q) (rowGap_at ..) (rowGap_at ..))

/-- The fourth block at an index: the right column's half difference taken from the left one's. -/
theorem out4_at (x : FVec Ideal S128x2x16x512 .f32) (y : S128x16x256.Idx) : out0_4 (F := Ideal) x y =
    ((x (ix4 (y 0) 0 (y 1) (even (y 2))) : EReal) - x (ix4 (y 0) 1 (y 1) (even (y 2)))) * half
      - ((x (ix4 (y 0) 0 (y 1) (odd (y 2))) : EReal) - x (ix4 (y 0) 1 (y 1) (odd (y 2)))) * half := by
  rw [out4_rows]
  exact (rowDifferences_at _ y).trans (congrArg₂ (fun p q : EReal => p - q) (rowGap_at ..) (rowGap_at ..))

end Cert.KernelIdeal.Haar

end
-- ==== Proof.Arrays.lean ====
/- The four arrays the kernel leaves, and the four results read off them, in the samples of the argument. -/
module

public import proofs.«01_k».proof.Proof.Block
public import Idealize.ShloMosaic.Lib.Claim

@[expose] public section

set_option maxRecDepth 16384

noncomputable section

namespace Cert.KernelIdeal.Haar

open Cert.KernelIdeal Cert.KernelIdeal.Gen Idealize.ShloMosaic Idealize.ShloMosaic.TcCoe Idealize.SL.Sem
open Idealize.ShloMosaic.Pipeline (Dat)

/-- The sample in row `p` and column `q` of the 2×2 window that the result's index `j` stands for. -/
def corner (X : FVec Ideal S8x512x512x16 .f32) (p q : Fin 2) (j : S8x256x256x16.Idx) : EReal :=
  X (ix4 (j 0) ⟨2 * (j 1).val + p.val, by have h : (j 1).val < 256 := (j 1).isLt; omega⟩
    ⟨2 * (j 2).val + q.val, by have h : (j 2).val < 256 := (j 2).isLt; omega⟩ (j 3))

/-- The result's index that index `i` of the kernel's array holds. -/
def place (i : S2048x16x256.Idx) : S8x256x256x16.Idx :=
  ix4 ⟨(i 0).val / 256, by have h : (i 0).val < 2048 := (i 0).isLt; omega⟩ ⟨(i 0).val % 256, Nat.mod_lt _ (by decide)⟩ (i 2) (i 1)

/-- LL as the kernel computes it at an index: the half sum of each column's two samples, then the sum of the columns. -/
def low (X : FVec Ideal S8x512x512x16 .f32) : FVec Ideal S8x256x256x16 .f32 := fun j =>
  (corner X 0 0 j + corner X 1 0 j) * half + (corner X 0 1 j + corner X 1 1 j) * half
/-- LH as the kernel computes it: the columns' half sums, the right one taken from the left. -/
def wide (X : FVec Ideal S8x512x512x16 .f32) : FVec Ideal S8x256x256x16 .f32 := fun j =>
  (corner X 0 0 j + corner X 1 0 j) * half - (corner X 0 1 j + corner X 1 1 j) * half
/-- HL as the kernel computes it: the columns' half differences (upper sample less lower), added. -/
def down (X : FVec Ideal S8x512x512x16 .f32) : FVec Ideal S8x256x256x16 .f32 := fun j =>
  (corner X 0 0 j - corner X 1 0 j) * half + (corner X 0 1 j - corner X 1 1 j) * half
/-- HH as the kernel computes it: the columns' half differences, the right one taken from the left. -/
def high (X : FVec Ideal S8x512x512x16 .f32) : FVec Ideal S8x256x256x16 .f32 := fun j =>
  (corner X 0 0 j - corner X 1 0 j) * half - (corner X 0 1 j - corner X 1 1 j) * half

variable (m : (ℓ : Loc nD τ sig) → Buf (Elt Ideal) ℓ)

/-- Every window's block index at every grid point. -/
theorem idx : ∀ t : Fin cfg0.N, win0_0.index t = ![t.val, 0, 0, 0] ∧ win0_1.index t = ![t.val, 0, 0] ∧
    win0_2.index t = ![t.val, 0, 0] ∧ win0_3.index t = ![t.val, 0, 0] ∧ win0_4.index t = ![t.val, 0, 0] :=
  (by decide +kernel : ∀ t : Fin grid0.N, _)

/-- The kernel's argument on a device. -/
abbrev X (c : Dev nD) : FVec Ideal S8x512x512x16 .f32 := m ((c : Thread nD τ).loc main_arg0)

/-- The array the kernel reads, as the argument's own samples: rows in pairs, channels before columns. -/
theorem entry (c : Dev nD) : V m c main_v1 = shapeCast S2048x2x16x512
    (transpose S8x512x16x512 [0, 1, 3, 2] (X m c) transposes_S8x512x512x16_S8x512x16x512_0_1_3_2)
    shapeCasts_S8x512x16x512_S2048x2x16x512 := by
  entry_read
  rfl

/-- The input block of grid point `t` at an index is a sample of the argument. -/
theorem block_at (c : Dev nD) (t : Fin cfg0.N) (y : S128x2x16x512.Idx) (j : S8x512x512x16.Idx)
    (h0 : (j 0).val = (t.val * 128 + (y 0).val) / 256) (h1 : (j 1).val = 2 * ((t.val * 128 + (y 0).val) % 256) + (y 1).val)
    (h2 : (j 2).val = (y 3).val) (h3 : (j 3).val = (y 2).val) :
    (show FVec Ideal S128x2x16x512 .f32 from iblk m c 0 t) y = X m c j := by
  show V m c main_v1 (((cfg0.win 0).blk t).view.emb y) = _
  rw [entry]
  pointwise
  blk_ext [idx t]

/-- The input block of grid point `t`, in row `p` and column `2w + q`, is the sample in corner `(p, q)` of the window of
    the array index that the output blocks' index `y` sits at. -/
theorem sample (c : Dev nD) (t : Fin cfg0.N) (y : S128x16x256.Idx) (i : S2048x16x256.Idx)
    (h0 : (i 0).val = t.val * 128 + (y 0).val) (h1 : (i 1).val = (y 1).val) (h2 : (i 2).val = (y 2).val)
    (p q : Fin 2) (k : Fin 512) (hk : k.val = 2 * (y 2).val + q.val) :
    (show FVec Ideal S128x2x16x512 .f32 from iblk m c 0 t) (ix4 (y 0) p (y 1) k) = corner (X m c) p q (place i) := by
  refine block_at m c t _ _ ?_ ?_ ?_ ?_
  · show (i 0).val / 256 = (t.val * 128 + (y 0).val) / 256
    rw [h0]
  · show 2 * ((i 0).val % 256) + p.val = 2 * ((t.val * 128 + (y 0).val) % 256) + p.val
    rw [h0]
  · show 2 * (i 2).val + q.val = k.val
    rw [h2, hk]
  · exact h1

/-- What the kernel stores at index `y` of each of its blocks is its result at `j`, where the input block holds the
    samples of `j`'s window. -/
theorem low_stored (x : FVec Ideal S128x2x16x512 .f32) (A : FVec Ideal S8x512x512x16 .f32) (y : S128x16x256.Idx)
    (j : S8x256x256x16.Idx) (h : ∀ (p q : Fin 2) (k : Fin 512), k.val = 2 * (y 2).val + q.val →
      x (ix4 (y 0) p (y 1) k) = corner A p q j) : out0_1 (F := Ideal) x y = low A j := by
  rw [out1_at, h 0 0 _ rfl, h 1 0 _ rfl, h 0 1 _ rfl, h 1 1 _ rfl]
  rfl

/-- The same of `wide`. -/
theorem wide_stored (x : FVec Ideal S128x2x16x512 .f32) (A : FVec Ideal S8x512x512x16 .f32) (y : S128x16x256.Idx)
    (j : S8x256x256x16.Idx) (h : ∀ (p q : Fin 2) (k : Fin 512), k.val = 2 * (y 2).val + q.val →
      x (ix4 (y 0) p (y 1) k) = corner A p q j) : out0_2 (F := Ideal) x y = wide A j := by
  rw [out2_at, h 0 0 _ rfl, h 1 0 _ rfl, h 0 1 _ rfl, h 1 1 _ rfl]
  rfl

/-- The same of `down`. -/
theorem down_stored (x : FVec Ideal S128x2x16x512 .f32) (A : FVec Ideal S8x512x512x16 .f32) (y : S128x16x256.Idx)
    (j : S8x256x256x16.Idx) (h : ∀ (p q : Fin 2) (k : Fin 512), k.val = 2 * (y 2).val + q.val →
      x (ix4 (y 0) p (y 1) k) = corner A p q j) : out0_3 (F := Ideal) x y = down A j := by
  rw [out3_at, h 0 0 _ rfl, h 1 0 _ rfl, h 0 1 _ rfl, h 1 1 _ rfl]
  rfl

/-- The same of `high`. -/
theorem high_stored (x : FVec Ideal S128x2x16x512 .f32) (A : FVec Ideal S8x512x512x16 .f32) (y : S128x16x256.Idx)
    (j : S8x256x256x16.Idx) (h : ∀ (p q : Fin 2) (k : Fin 512), k.val = 2 * (y 2).val + q.val →
      x (ix4 (y 0) p (y 1) k) = corner A p q j) : out0_4 (F := Ideal) x y = high A j := by
  rw [out4_at, h 0 0 _ rfl, h 1 0 _ rfl, h 0 1 _ rfl, h 1 1 _ rfl]
  rfl

/-- The first array after the run. -/
theorem final1 (c : Dev nD) : (dats m 0 c).arrAt 1 cfg0.N = fun i => low (X m c) (place i) := by
  refine (dats m 0 c).arrAt_eq_of_covers 1 _ (by decide +kernel) fun t _ y => ?_
  blk_simp
  rw [after0_1]
  exact low_stored _ _ y _
    (sample m c t y ((win0_1.blk t).view.emb y) (by blk_simp [idx t]) (by blk_simp [idx t]) (by blk_simp [idx t]))

/-- The second array after the run. -/
theorem final2 (c : Dev nD) : (dats m 0 c).arrAt 2 cfg0.N = fun i => wide (X m c) (place i) := by
  refine (dats m 0 c).arrAt_eq_of_covers 2 _ (by decide +kernel) fun t _ y => ?_
  blk_simp
  rw [after0_2]
  exact wide_stored _ _ y _
    (sample m c t y ((win0_2.blk t).view.emb y) (by blk_simp [idx t]) (by blk_simp [idx t]) (by blk_simp [idx t]))

/-- The third array after the run. -/
theorem final3 (c : Dev nD) : (dats m 0 c).arrAt 3 cfg0.N = fun i => down (X m c) (place i) := by
  refine (dats m 0 c).arrAt_eq_of_covers 3 _ (by decide +kernel) fun t _ y => ?_
  blk_simp
  rw [after0_3]
  exact down_stored _ _ y _
    (sample m c t y ((win0_3.blk t).view.emb y) (by blk_simp [idx t]) (by blk_simp [idx t]) (by blk_simp [idx t]))

/-- The fourth array after the run. -/
theorem final4 (c : Dev nD) : (dats m 0 c).arrAt 4 cfg0.N = fun i => high (X m c) (place i) := by
  refine (dats m 0 c).arrAt_eq_of_covers 4 _ (by decide +kernel) fun t _ y => ?_
  blk_simp
  rw [after0_4]
  exact high_stored _ _ y _
    (sample m c t y ((win0_4.blk t).view.emb y) (by blk_simp [idx t]) (by blk_simp [idx t]) (by blk_simp [idx t]))

/-- A result as the host makes it of one of the kernel's arrays: the rows back under their images, and the columns
    before the channels. -/
abbrev unfolded (A : FVec Ideal S2048x16x256 .f32) : FVec Ideal S8x256x256x16 .f32 :=
  transpose S8x256x256x16 [0, 1, 3, 2]
    (shapeCast S8x256x16x256 A shapeCasts_S2048x16x256_S8x256x16x256)
    transposes_S8x256x16x256_S8x256x256x16_0_1_3_2

/-- An array filled from result `f` by `place` is unfolded to `f`. -/
theorem unfolded_place (f : FVec Ideal S8x256x256x16 .f32) : unfolded (fun i => f (place i)) = f := by
  funext j
  pointwise [unfolded, place]
  blk_ext

end Cert.KernelIdeal.Haar

end
-- ==== Proof.Equations.lean ====
/- The two programs' formulas at one window, and the facts about extended reals that make them equal. -/
module

public import proofs.«01_k».proof.Proof.Arrays
public import proofs.«01_k».proof.Proof.Gen.ReferenceIdeal.Run
public import proofs.«01_k».proof.Proof.Gen.Pre_one_finite
public import proofs.«01_k».proof.Proof.Gen.On_windows

@[expose] public section

set_option maxRecDepth 16384

noncomputable section

namespace Cert.KernelIdeal.Haar

open Cert.KernelIdeal Idealize.ShloMosaic

/-! ## Extended reals -/

/-- The constant is one half. -/
theorem half_eq : half = ((1 / 2 : ℝ) : EReal) := by
  simp [half, Ideal.ofBits, Ideal.ieee, -EReal.coe_mul]; norm_num

/-- One half is not negative. -/
theorem half_nonneg : 0 ≤ half := by
  rw [half_eq]
  exact EReal.coe_nonneg.mpr (by norm_num)

/-- One half is not infinite. -/
theorem half_ne_top : half ≠ ⊤ := by
  rw [half_eq]
  exact EReal.coe_ne_top _

/-- Halving distributes over every sum of extended reals. -/
theorem add_half (x y : EReal) : (x + y) * half = x * half + y * half :=
  EReal.right_distrib_of_nonneg_of_ne_top half_nonneg half_ne_top x y

/-- Neither infinity. -/
def IsFinite (x : EReal) : Prop := x ≠ ⊤ ∧ x ≠ ⊥

/-- The low band: whatever the samples, the half sums of the columns add up to half the sum of all four. -/
theorem low_eq (a b c d : EReal) : (a + c) * half + (b + d) * half = (a + b + c + d) * half := by
  rw [← add_half]
  congr 1
  ac_rfl

/-- The rows' band: the same with the lower row's samples taken away, whatever they are. -/
theorem down_eq (a b c d : EReal) : (a - c) * half + (b - d) * half = (a + b - c - d) * half := by
  rw [← add_half]
  congr 1
  simp only [sub_eq_add_neg]
  ac_rfl

/-- The columns' band: the right column's half sum taken away takes its two samples away one by one, unless they are
    opposite infinities. -/
theorem wide_eq (a b c d : EReal) (h : IsFinite b ∨ IsFinite d) :
    (a + c) * half - (b + d) * half = (a - b + c - d) * half := by
  have hn : -(b + d) = -b + -d := by
    rw [EReal.neg_add (h.elim (fun h => .inl h.2) fun h => .inr h.1) (h.elim (fun h => .inl h.1) fun h => .inr h.2)]
    rfl
  rw [sub_eq_add_neg, ← EReal.neg_mul, ← add_half, hn]
  congr 1
  simp only [sub_eq_add_neg]
  ac_rfl

/-- The diagonal band: the right column's half difference taken away takes its upper sample away and gives its lower
    one back, unless they are the same infinity. -/
theorem high_eq (a b c d : EReal) (h : IsFinite b ∨ IsFinite d) :
    (a - c) * half - (b - d) * half = (a - b - c + d) * half := by
  have hn : -(b - d) = -b + d := by
    rw [EReal.neg_sub (h.elim (fun h => .inl h.2) fun h => .inr h.2) (h.elim (fun h => .inl h.1) fun h => .inr h.1)]
  rw [sub_eq_add_neg, ← EReal.neg_mul, ← add_half, hn]
  congr 1
  simp only [sub_eq_add_neg]
  ac_rfl

/-! ## The reference, and the windows the mask selects -/

/-- The reference's array of one corner of every window: the argument split into windows, cut at `o`, the two axes of
    length one dropped. -/
abbrev cut (o : Fin 6 → ℕ) (h : Cert.ReferenceIdeal.S8x256x2x256x2x16.Slices o Cert.ReferenceIdeal.S8x256x1x256x1x16)
    (A : FVec Ideal S8x512x512x16 .f32) : FVec Ideal S8x256x256x16 .f32 :=
  shapeCast Cert.ReferenceIdeal.S8x256x256x16 (extractStridedSlice Cert.ReferenceIdeal.S8x256x1x256x1x16 o
    (shapeCast Cert.ReferenceIdeal.S8x256x2x256x2x16 A Cert.ReferenceIdeal.Gen.shapeCasts_S8x512x512x16_S8x256x2x256x2x16) h)
    Cert.ReferenceIdeal.Gen.shapeCasts_S8x256x1x256x1x16_S8x256x256x16

/-- The cut at row 0 and column 0 of the windows is corner `(0, 0)`. -/
theorem cut00_at (A : FVec Ideal S8x512x512x16 .f32) (h) (j : S8x256x256x16.Idx) :
    cut ![0, 0, 0, 0, 0, 0] h A j = corner A 0 0 j := by
  pointwise [cut, corner]
  blk_ext
/-- The cut at row 0 and column 1 of the windows is corner `(0, 1)`. -/
theorem cut01_at (A : FVec Ideal S8x512x512x16 .f32) (h) (j : S8x256x256x16.Idx) :
    cut ![0, 0, 0, 0, 1, 0] h A j = corner A 0 1 j := by
  pointwise [cut, corner]
  blk_ext
/-- The cut at row 1 and column 0 of the windows is corner `(1, 0)`. -/
theorem cut10_at (A : FVec Ideal S8x512x512x16 .f32) (h) (j : S8x256x256x16.Idx) :
    cut ![0, 0, 1, 0, 0, 0] h A j = corner A 1 0 j := by
  pointwise [cut, corner]
  blk_ext
/-- The cut at row 1 and column 1 of the windows is corner `(1, 1)`. -/
theorem cut11_at (A : FVec Ideal S8x512x512x16 .f32) (h) (j : S8x256x256x16.Idx) :
    cut ![0, 0, 1, 0, 1, 0] h A j = corner A 1 1 j := by
  pointwise [cut, corner]
  blk_ext

/-- A number whose absolute value compares below the infinity is neither infinity. -/
theorem finite_of_olt (x : Ideal .f32)
    (h : FloatOps.cmpf .olt (FloatOps.hostAbsf x) (FloatOps.ofBits (F := Ideal) .f32 0x7F800000#32) = 1#1) : IsFinite x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  have h' : max (x : EReal) (-(x : EReal)) < ⊤ := by
    by_contra hc
    simp [Ideal.cmp, hc] at h
  refine ⟨fun e => ?_, fun e => ?_⟩
  · rw [e] at h'; simp at h'
  · rw [e] at h'; simp at h'

/-- Where the mask of the right column is one, one of its two samples is finite. -/
theorem mask_at (A : FVec Ideal S8x512x512x16 .f32) (j : S8x256x256x16.Idx)
    (h : (Cert.Pre_one_finite.fn (F := Ideal) A) j = 1#1) : IsFinite (corner A 0 1 j) ∨ IsFinite (corner A 1 1 j) := by
  have e : (Cert.Pre_one_finite.fn (F := Ideal) A) j = IntOp.ori
     (FloatOps.cmpf .olt (FloatOps.hostAbsf (corner A 0 1 j : Ideal .f32)) (FloatOps.ofBits (F := Ideal) .f32 0x7F800000#32))
     (FloatOps.cmpf .olt (FloatOps.hostAbsf (corner A 1 1 j : Ideal .f32)) (FloatOps.ofBits (F := Ideal) .f32 0x7F800000#32)) := by
    rw [← cut01_at A Cert.ReferenceIdeal.Gen.slices_S8x256x2x256x2x16_S8x256x1x256x1x16_0_0_0_0_1_0,
      ← cut11_at A Cert.ReferenceIdeal.Gen.slices_S8x256x2x256x2x16_S8x256x1x256x1x16_0_0_1_0_1_0]
    rfl
  rw [e] at h
  rcases (by decide : ∀ p q : BitVec 1, IntOp.ori p q = 1#1 → p = 1#1 ∨ q = 1#1) _ _ h with h | h
  · exact .inl (finite_of_olt _ h)
  · exact .inr (finite_of_olt _ h)

end Cert.KernelIdeal.Haar

end
-- ==== Proof.Runs.lean ====
/- The two programs' runs: each result of the kernel, and each of the reference, as a formula in the samples. -/
module

public import proofs.«01_k».proof.Proof.Equations

@[expose] public section

set_option maxRecDepth 16384

noncomputable section

namespace Cert.KernelIdeal.Haar

open Cert.KernelIdeal Cert.KernelIdeal.Gen Idealize.ShloMosaic Idealize.ShloMosaic.TcCoe Idealize.SL.Sem

variable (m : (ℓ : Loc nD τ sig) → Buf (Elt Ideal) ℓ)

/-- The windows' arrays are five different ones. -/
theorem arrays_differ : Function.Injective (Pipeline.arrRef spec0) := by decide

/-- The host operations after the kernel leave the first result unfolded from the first array. -/
theorem host1 (A : Valuation τ sig (Elt Ideal)) :
    StableHlo.after [hostOps1].flatten A (Proc.devRef .tc main_v4) = unfolded (A (Proc.devRef .tc main_v2_0)) := by
  simp only [hostOps1, List.flatten_cons, List.flatten_nil, List.append_nil]
  after_results_simp
  rfl

/-- The host operations after the kernel leave the second result unfolded from the second array. -/
theorem host2 (A : Valuation τ sig (Elt Ideal)) :
    StableHlo.after [hostOps1].flatten A (Proc.devRef .tc main_v6) = unfolded (A (Proc.devRef .tc main_v2_1)) := by
  simp only [hostOps1, List.flatten_cons, List.flatten_nil, List.append_nil]
  after_results_simp
  rfl

/-- The host operations after the kernel leave the third result unfolded from the third array. -/
theorem host3 (A : Valuation τ sig (Elt Ideal)) :
    StableHlo.after [hostOps1].flatten A (Proc.devRef .tc main_v8) = unfolded (A (Proc.devRef .tc main_v2_2)) := by
  simp only [hostOps1, List.flatten_cons, List.flatten_nil, List.append_nil]
  after_results_simp
  rfl

/-- The host operations after the kernel leave the fourth result unfolded from the fourth array. -/
theorem host4 (A : Valuation τ sig (Elt Ideal)) :
    StableHlo.after [hostOps1].flatten A (Proc.devRef .tc main_v10) = unfolded (A (Proc.devRef .tc main_v2_3)) := by
  simp only [hostOps1, List.flatten_cons, List.flatten_nil, List.append_nil]
  after_results_simp
  rfl

/-- The first result after the run is `low` of the argument. -/
theorem result1 (c : Dev nD) : Pipeline.afterTail₀ cfgs (dats m) 0 (V0 m) [hostOps1] c main_v4 = low (X m c) := by
  have e : Pipeline.withArrays spec0 c (V0 m c) (fun w => (dats m 0 c).arrAt w cfg0.N) (Proc.devRef .tc main_v2_0)
      = fun i => low (X m c) (place i) :=
    (Pipeline.withArrays_arr spec0 arrays_differ c _ _ 1).trans (final1 m c)
  refine (host1 _).trans (Eq.trans ?_ (unfolded_place (low (X m c))))
  exact congrArg unfolded e

/-- The second result after the run is `wide` of the argument. -/
theorem result2 (c : Dev nD) : Pipeline.afterTail₀ cfgs (dats m) 0 (V0 m) [hostOps1] c main_v6 = wide (X m c) := by
  have e : Pipeline.withArrays spec0 c (V0 m c) (fun w => (dats m 0 c).arrAt w cfg0.N) (Proc.devRef .tc main_v2_1)
      = fun i => wide (X m c) (place i) :=
    (Pipeline.withArrays_arr spec0 arrays_differ c _ _ 2).trans (final2 m c)
  refine (host2 _).trans (Eq.trans ?_ (unfolded_place (wide (X m c))))
  exact congrArg unfolded e

/-- The third result after the run is `down` of the argument. -/
theorem result3 (c : Dev nD) : Pipeline.afterTail₀ cfgs (dats m) 0 (V0 m) [hostOps1] c main_v8 = down (X m c) := by
  have e : Pipeline.withArrays spec0 c (V0 m c) (fun w => (dats m 0 c).arrAt w cfg0.N) (Proc.devRef .tc main_v2_2)
      = fun i => down (X m c) (place i) :=
    (Pipeline.withArrays_arr spec0 arrays_differ c _ _ 3).trans (final3 m c)
  refine (host3 _).trans (Eq.trans ?_ (unfolded_place (down (X m c))))
  exact congrArg unfolded e

/-- The fourth result after the run is `high` of the argument. -/
theorem result4 (c : Dev nD) : Pipeline.afterTail₀ cfgs (dats m) 0 (V0 m) [hostOps1] c main_v10 = high (X m c) := by
  have e : Pipeline.withArrays spec0 c (V0 m c) (fun w => (dats m 0 c).arrAt w cfg0.N) (Proc.devRef .tc main_v2_3)
      = fun i => high (X m c) (place i) :=
    (Pipeline.withArrays_arr spec0 arrays_differ c _ _ 4).trans (final4 m c)
  refine (host4 _).trans (Eq.trans ?_ (unfolded_place (high (X m c))))
  exact congrArg unfolded e

/-- The idealized kernel's run: its four results and its argument afterwards. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v4) = low (X m c) ∧ r.2.mem ((c.tc : Thread nD τ).loc main_v6) = wide (X m c) ∧
    r.2.mem ((c.tc : Thread nD τ).loc main_v8) = down (X m c) ∧ r.2.mem ((c.tc : Thread nD τ).loc main_v10) = high (X m c) ∧
    r.2.mem ((c.tc : Thread nD τ).loc main_arg0) = X m c := by
  run_from run_main m g
  · exact result1 m c
  · exact result2 m c
  · exact result3 m c
  · exact result4 m c
  · exact W_main_arg0 m (dats m) c

/-! ## The reference -/

/-- LL as the reference computes it: the window's four samples added in its order, then halved. -/
def refLow (A : FVec Ideal S8x512x512x16 .f32) : FVec Ideal S8x256x256x16 .f32 := fun j =>
  (corner A 0 0 j + corner A 0 1 j + corner A 1 0 j + corner A 1 1 j) * half
/-- LH: the right column's samples taken away, in the reference's order, then halved. -/
def refWide (A : FVec Ideal S8x512x512x16 .f32) : FVec Ideal S8x256x256x16 .f32 := fun j =>
  (corner A 0 0 j - corner A 0 1 j + corner A 1 0 j - corner A 1 1 j) * half
/-- HL: the lower row's samples taken away, in the reference's order, then halved. -/
def refDown (A : FVec Ideal S8x512x512x16 .f32) : FVec Ideal S8x256x256x16 .f32 := fun j =>
  (corner A 0 0 j + corner A 0 1 j - corner A 1 0 j - corner A 1 1 j) * half
/-- HH: the upper right and the lower left sample taken away, in the reference's order, then halved. -/
def refHigh (A : FVec Ideal S8x512x512x16 .f32) : FVec Ideal S8x256x256x16 .f32 := fun j =>
  (corner A 0 0 j - corner A 0 1 j - corner A 1 0 j + corner A 1 1 j) * half

/-- The reference's formula over its four arrays of samples, at an index: whatever the three operations between them. -/
theorem cuts_at (A : FVec Ideal S8x512x512x16 .f32) (f : EReal → EReal → EReal → EReal → EReal) (h00 h01 h10 h11)
    (j : S8x256x256x16.Idx) : f (cut ![0, 0, 0, 0, 0, 0] h00 A j) (cut ![0, 0, 0, 0, 1, 0] h01 A j)
      (cut ![0, 0, 1, 0, 0, 0] h10 A j) (cut ![0, 0, 1, 0, 1, 0] h11 A j)
      = f (corner A 0 0 j) (corner A 0 1 j) (corner A 1 0 j) (corner A 1 1 j) := by
  rw [cut00_at, cut01_at, cut10_at, cut11_at]

open Cert.ReferenceIdeal in
/-- The idealized reference's run: its four results and its argument afterwards. -/
theorem reference_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ fun r => ∀ c : Dev Cert.ReferenceIdeal.nD,
    r.2.mem ((c.tc : Thread Cert.ReferenceIdeal.nD Cert.ReferenceIdeal.τ).loc Cert.ReferenceIdeal.main_v13)
      = refLow (m' ((c.tc : Thread Cert.ReferenceIdeal.nD Cert.ReferenceIdeal.τ).loc Cert.ReferenceIdeal.main_arg0)) ∧
    r.2.mem ((c.tc : Thread Cert.ReferenceIdeal.nD Cert.ReferenceIdeal.τ).loc Cert.ReferenceIdeal.main_v18)
      = refWide (m' ((c.tc : Thread Cert.ReferenceIdeal.nD Cert.ReferenceIdeal.τ).loc Cert.ReferenceIdeal.main_arg0)) ∧
    r.2.mem ((c.tc : Thread Cert.ReferenceIdeal.nD Cert.ReferenceIdeal.τ).loc Cert.ReferenceIdeal.main_v23)
      = refDown (m' ((c.tc : Thread Cert.ReferenceIdeal.nD Cert.ReferenceIdeal.τ).loc Cert.ReferenceIdeal.main_arg0)) ∧
    r.2.mem ((c.tc : Thread Cert.ReferenceIdeal.nD Cert.ReferenceIdeal.τ).loc Cert.ReferenceIdeal.main_v28)
      = refHigh (m' ((c.tc : Thread Cert.ReferenceIdeal.nD Cert.ReferenceIdeal.τ).loc Cert.ReferenceIdeal.main_arg0)) ∧
    r.2.mem ((c.tc : Thread Cert.ReferenceIdeal.nD Cert.ReferenceIdeal.τ).loc Cert.ReferenceIdeal.main_arg0)
      = m' ((c.tc : Thread Cert.ReferenceIdeal.nD Cert.ReferenceIdeal.τ).loc Cert.ReferenceIdeal.main_arg0) := by
  refine (θ_run _ _ _).mono (fun r h c => ?_) (Cert.ReferenceIdeal.Value.run m' g')
  obtain ⟨h1, h2, h3, h4, h5⟩ := h c
  refine ⟨h1.trans (funext fun j => ?_), h2.trans (funext fun j => ?_), h3.trans (funext fun j => ?_),
    h4.trans (funext fun j => ?_), h5⟩
  · exact cuts_at _ (fun p q r s => (p + q + r + s) * half) _ _ _ _ j
  · exact cuts_at _ (fun p q r s => (p - q + r - s) * half) _ _ _ _ j
  · exact cuts_at _ (fun p q r s => (p + q - r - s) * half) _ _ _ _ j
  · exact cuts_at _ (fun p q r s => (p - q - r + s) * half) _ _ _ _ j

/-! ## The two programs' results -/

/-- LL of the kernel is LL of the reference, on every input. -/
theorem low_same (A : FVec Ideal S8x512x512x16 .f32) : refLow A = low A := funext fun _ => (low_eq _ _ _ _).symm

/-- HL of the kernel is HL of the reference, on every input. -/
theorem down_same (A : FVec Ideal S8x512x512x16 .f32) : refDown A = down A := funext fun _ => (down_eq _ _ _ _).symm

/-- LH of the kernel is LH of the reference at every window whose right column has a finite sample. -/
theorem wide_same (A : FVec Ideal S8x512x512x16 .f32) (j : S8x256x256x16.Idx)
    (h : Cert.Pre_one_finite.fn (F := Ideal) A j = 1#1) : refWide A j = wide A j := (wide_eq _ _ _ _ (mask_at A j h)).symm

/-- HH of the kernel is HH of the reference at every window whose right column has a finite sample. -/
theorem high_same (A : FVec Ideal S8x512x512x16 .f32) (j : S8x256x256x16.Idx)
    (h : Cert.Pre_one_finite.fn (F := Ideal) A j = 1#1) : refHigh A j = high A j := (high_eq _ _ _ _ (mask_at A j h)).symm

end Cert.KernelIdeal.Haar

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_one_finite
public import proofs.«01_k».proof.Proof.Gen.On_windows
public import proofs.«01_k».proof.Proof.Runs
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference's frame: its run leaves the argument as it was, and it has no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0 :=
  (θ_run _ _ _).mono (fun r h => ⟨fun c => (h c).2.2.2.2, sem_eq_zero_of_no_sems (by decide) r.2⟩)
    (Cert.KernelIdeal.Haar.reference_run m g)

open Cert.KernelIdeal.Haar in
/-- The parts of the certificate: the frames of the kernel, of its idealization and of the reference (the last two
    again under the precondition, which they do not need), the idealization, the four results whole under the
    precondition, and the four results at the windows that the mask selects. -/
theorem claim : Cert.Claim := ⟨Cert.Kernel.Gen.facts, Cert.KernelIdeal.Gen.facts, Cert.ReferenceIdeal.Gen.facts,
  Cert.Pre_one_finite.Gen.facts, Cert.On_windows.Gen.facts, by
  refine ⟨?_, ?_, ?_, ?_, ?_, trivial, ?_, ?_⟩
  · exact fun m g _ => Cert.Kernel.Gen.frame m g
  · exact fun m g _ => Cert.KernelIdeal.Gen.frame m g
  · exact fun m g _ => Cert.KernelIdeal.Gen.frame m g
  · exact fun m g _ => reference_frame m g
  · exact fun m g _ => reference_frame m g
  · intro m g m' g' hpre hagree
    refine ⟨fun c => low (X m c), fun c => wide (X m c), fun c => down (X m c), fun c => high (X m c), run m g, ?_⟩
    refine (θ_run _ _ _).mono (fun r h c => ?_) (reference_run m' g')
    have hp (j) : Cert.Pre_one_finite.fn (F := Ideal) (X m c) j = 1#1 := congrFun (hpre c) j
    obtain ⟨h1, h2, h3, h4, h5⟩ := h c
    rw [hagree c] at h1 h2 h3 h4
    exact ⟨h1.trans (low_same _), h2.trans (funext fun j => wide_same _ j (hp j)), h3.trans (down_same _),
      h4.trans (funext fun j => high_same _ j (hp j)), h5⟩
  · intro m g m' g' _ hagree
    refine ⟨fun c => low (X m c), fun c => wide (X m c), fun c => down (X m c), fun c => high (X m c), ?_, ?_⟩
    · refine (θ_run _ _ _).mono (fun r h c => ?_) (run m g)
      obtain ⟨h1, h2, h3, h4, h5⟩ := h c
      exact ⟨fun i _ => congrFun h1 i, fun i _ => congrFun h2 i, fun i _ => congrFun h3 i, fun i _ => congrFun h4 i, h5⟩
    · refine (θ_run _ _ _).mono (fun r h c => ?_) (reference_run m' g')
      obtain ⟨h1, h2, h3, h4, h5⟩ := h c
      rw [hagree c] at h1 h2 h3 h4
      exact ⟨fun i _ => congrFun (h1.trans (low_same _)) i, fun i hi => (congrFun h2 i).trans (wide_same _ i hi),
        fun i _ => congrFun (h3.trans (down_same _)) i, fun i hi => (congrFun h4 i).trans (high_same _ i hi), h5⟩⟩

end Cert.Proof

end
